-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S896x960 : Shape := ⟨2, ![896, 960]⟩
abbrev S1x4096x896 : Shape := ⟨3, ![1, 4096, 896]⟩
abbrev S1x32x896 : Shape := ⟨3, ![1, 32, 896]⟩
abbrev S1x4096x960 : Shape := ⟨3, ![1, 4096, 960]⟩
abbrev S1x32x960 : Shape := ⟨3, ![1, 32, 960]⟩
abbrev S4096x896 : Shape := ⟨2, ![4096, 896]⟩
abbrev S4096x960 : Shape := ⟨2, ![4096, 960]⟩
abbrev S32x896 : Shape := ⟨2, ![32, 896]⟩
abbrev S32x960 : Shape := ⟨2, ![32, 960]⟩
abbrev S1x128x896 : Shape := ⟨3, ![1, 128, 896]⟩
abbrev S128x896 : Shape := ⟨2, ![128, 896]⟩
abbrev S1x896 : Shape := ⟨2, ![1, 896]⟩
abbrev S64x896 : Shape := ⟨2, ![64, 896]⟩
abbrev S1x128x960 : Shape := ⟨3, ![1, 128, 960]⟩
abbrev S128x960 : Shape := ⟨2, ![128, 960]⟩
abbrev S1x960 : Shape := ⟨2, ![1, 960]⟩
abbrev S64x960 : Shape := ⟨2, ![64, 960]⟩

abbrev nBuf : Space → Nat
  | .hbm => 6
  | .vmem => 14
  | .smem => 0
  | _ => 0

abbrev bufTy : (tb : Table) → Fin (tcTables nBuf tb) → BufTy
  | .hbm, ⟨0, _⟩ => ⟨S48x8192x896, .fp8e4m3⟩
  | .hbm, ⟨1, _⟩ => ⟨S48x64x896, .i8⟩
  | .hbm, ⟨2, _⟩ => ⟨S48x8192x960, .fp8e5m2⟩
  | .hbm, ⟨3, _⟩ => ⟨S48x64x960, .i8⟩
  | .hbm, ⟨4, _⟩ => ⟨S896x960, .f32⟩
  | .hbm, ⟨5, _⟩ => ⟨S896x960, .f32⟩
  | .local _ .vmem, ⟨0, _⟩ => ⟨S1x4096x896, .fp8e4m3⟩
  | .local _ .vmem, ⟨1, _⟩ => ⟨S1x4096x896, .fp8e4m3⟩
  | .local _ .vmem, ⟨2, _⟩ => ⟨S1x32x896, .i8⟩
  | .local _ .vmem, ⟨3, _⟩ => ⟨S1x32x896, .i8⟩
  | .local _ .vmem, ⟨4, _⟩ => ⟨S1x4096x960, .fp8e5m2⟩
  | .local _ .vmem, ⟨5, _⟩ => ⟨S1x4096x960, .fp8e5m2⟩
  | .local _ .vmem, ⟨6, _⟩ => ⟨S1x32x960, .i8⟩
  | .local _ .vmem, ⟨7, _⟩ => ⟨S1x32x960, .i8⟩
  | .local _ .vmem, ⟨8, _⟩ => ⟨S896x960, .f32⟩
  | .local _ .vmem, ⟨9, _⟩ => ⟨S896x960, .f32⟩
  | .local _ .vmem, ⟨10, _⟩ => ⟨S4096x896, .bf16⟩
  | .local _ .vmem, ⟨11, _⟩ => ⟨S4096x960, .bf16⟩
  | .local _ .vmem, ⟨12, _⟩ => ⟨S32x896, .i32⟩
  | .local _ .vmem, ⟨13, _⟩ => ⟨S32x960, .i32⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![48, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x896 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x960 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x960 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S896x960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S896x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S896x960 : Shape := ⟨2, ![896, 960]⟩
abbrev S48x64x128x896 : Shape := ⟨4, ![48, 64, 128, 896]⟩
abbrev S48x64x1x896 : Shape := ⟨4, ![48, 64, 1, 896]⟩
abbrev S48x64x128x960 : Shape := ⟨4, ![48, 64, 128, 960]⟩
abbrev S48x64x1x960 : Shape := ⟨4, ![48, 64, 1, 960]⟩

abbrev nBuf : Space → Nat
  | .hbm => 6
  | .vmem => 6
  | .smem => 0
  | _ => 0

abbrev bufTy : (tb : Table) → Fin (tcTables nBuf tb) → BufTy
  | .hbm, ⟨0, _⟩ => ⟨S48x8192x896, .fp8e4m3⟩
  | .hbm, ⟨1, _⟩ => ⟨S48x64x896, .i8⟩
  | .hbm, ⟨2, _⟩ => ⟨S48x8192x960, .fp8e5m2⟩
  | .hbm, ⟨3, _⟩ => ⟨S48x64x960, .i8⟩
  | .hbm, ⟨4, _⟩ => ⟨S896x960, .f32⟩
  | .hbm, ⟨5, _⟩ => ⟨S896x960, .f32⟩
  | .local _ .vmem, ⟨0, _⟩ => ⟨S48x8192x896, .fp8e4m3⟩
  | .local _ .vmem, ⟨1, _⟩ => ⟨S48x64x896, .i8⟩
  | .local _ .vmem, ⟨2, _⟩ => ⟨S48x8192x960, .fp8e5m2⟩
  | .local _ .vmem, ⟨3, _⟩ => ⟨S48x64x960, .i8⟩
  | .local _ .vmem, ⟨4, _⟩ => ⟨S896x960, .f32⟩
  | .local _ .vmem, ⟨5, _⟩ => ⟨S896x960, .f32⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x8192x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64x896 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x8192x960 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x64x960 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S896x960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S896x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  THE SCALE OF ONE BLOCK. A scale code is the biased exponent `e` of a power of two, one byte. The kernel makes the
  power by laying `e` in the exponent field of a bf16 pattern: it packs two copies of the pattern in one 32-bit word
  and reads the word as two bf16 elements. The reference makes it by `exp2 (e - 127)` with the two ends of the range
  flushed (to zero below `2^-126`, to infinity above `2^127`). This module says that the two are the same number, for
  every byte.
-/
module

public import Idealize.ShloMosaic.Lib.ValueIdx
public import Idealize.ShloMosaic.Lib.BitcastPair

@[expose] public section

set_option maxRecDepth 16384

noncomputable section

namespace Cert.Proof.Scale

open Idealize.ShloMosaic

/-- The scale a byte `e` codes: the bf16 pattern whose exponent field is `e` and whose other bits are zero. -/
def scale (e : BitVec 8) : EReal := Ideal.ofBits .bf16 ((e.setWidth 16) <<< 7)

/-- The word that packs the pattern of `e` twice: in its low half and in its high half. -/
def pairWord (e : BitVec 8) : BitVec 32 :=
  IntOp.ori (IntOp.shli .vector (e.setWidth 32) 7#32) (IntOp.shli .vector (e.setWidth 32) 23#32)

/-- Either half of the packed word is the pattern of `e`. -/
theorem pairWord_half (e : BitVec 8) (k : Nat) (hk : k < 2) :
    (pairWord e).extractLsb' (16 * k) 16 = (e.setWidth 16) <<< 7 := by
  have h := (by decide +kernel : ∀ (e : BitVec 8) (k : Fin 2),
    ((e.setWidth 32 <<< 7#32) ||| (e.setWidth 32 <<< 23#32)).extractLsb' (16 * k.val) 16 = (e.setWidth 16) <<< 7) e ⟨k, hk⟩
  exact h

/-- The fields of the pattern of `e`: the sign bit is zero, the exponent is `e`, the significand is zero. -/
theorem fields (e : BitVec 8) :
    (((e.setWidth 16) <<< 7).extractLsb' 15 1 == 1#1) = false ∧ (((e.setWidth 16) <<< 7).extractLsb' 7 8).toNat = e.toNat
      ∧ (((e.setWidth 16) <<< 7).extractLsb' 0 7).toNat = 0 :=
  (by decide +kernel : ∀ e : BitVec 8, (((e.setWidth 16) <<< 7).extractLsb' 15 1 == 1#1) = false
    ∧ (((e.setWidth 16) <<< 7).extractLsb' 7 8).toNat = e.toNat ∧ (((e.setWidth 16) <<< 7).extractLsb' 0 7).toNat = 0) e

/-- The scale in closed form: zero at `e = 0`, infinity at `e = 255`, else `2 ^ (e - 127)`. -/
theorem scale_eq (e : BitVec 8) :
    scale e = if e.toNat = 255 then ⊤ else if e.toNat = 0 then 0 else (((2 : ℝ) ^ ((e.toNat : Int) - 127) : ℝ) : EReal) := by
  obtain ⟨h1, h2, h3⟩ := fields e
  unfold scale Ideal.ofBits Ideal.ieee
  simp only [h1, h2, h3]
  norm_num
  split_ifs with h4 h5
  · rfl
  · rfl
  · congr 1
    rw [show ((e.toNat : Int) - 127) = 7 + ((e.toNat : Int) - 127 - 7) by ring, zpow_add₀ (by norm_num)]
    norm_num

/-- The exponent the reference computes, `e - 127` on 32-bit words. -/
def expWord (e : BitVec 8) : BitVec 32 := IntOp.subi (e.setWidth 32) 127#32

/-- The tests the reference makes on it, and its value as an integer. -/
theorem expWord_facts (e : BitVec 8) :
    IntOp.cmpi .slt (expWord e) 4294967170#32 = (if e.toNat = 0 then 1#1 else 0#1)
      ∧ IntOp.cmpi .sgt (expWord e) 127#32 = (if e.toNat = 255 then 1#1 else 0#1)
      ∧ (expWord e).toInt = (e.toNat : Int) - 127 := by
  exact (by decide +kernel : ∀ e : BitVec 8,
    IntOp.cmpi .slt (expWord e) 4294967170#32 = (if e.toNat = 0 then 1#1 else 0#1)
      ∧ IntOp.cmpi .sgt (expWord e) 127#32 = (if e.toNat = 255 then 1#1 else 0#1)
      ∧ (expWord e).toInt = (e.toNat : Int) - 127) e

/-- The reference's scale: `exp2 (e - 127)`, zero where `e - 127 < -126`, infinity where `e - 127 > 127`. -/
def refScale (e : BitVec 8) : EReal :=
  if IntOp.cmpi .slt (expWord e) 4294967170#32 = 1#1 then Ideal.ofBits .f32 0x00000000#32
  else if IntOp.cmpi .sgt (expWord e) 127#32 = 1#1 then Ideal.ofBits .f32 0x7F800000#32
  else Ideal.exp2 (((expWord e).toInt : ℝ) : EReal)

/-- The reference's scale of a byte is the kernel's. -/
theorem refScale_eq (e : BitVec 8) : refScale e = scale e := by
  obtain ⟨h1, h2, h3⟩ := expWord_facts e
  have z : Ideal.ofBits .f32 0x00000000#32 = 0 := by simp [Ideal.ofBits, Ideal.ieee]
  have t : Ideal.ofBits .f32 0x7F800000#32 = ⊤ := by simp [Ideal.ofBits, Ideal.ieee]
  unfold refScale
  rw [scale_eq, h1, h2, h3, z, t]
  by_cases h0 : e.toNat = 0
  · simp [h0]
  · by_cases h5 : e.toNat = 255
    · simp [h5]
    · simp only [h0, h5, if_false, Ideal.exp2_coe]
      norm_num
      rw [← Real.rpow_intCast]
      push_cast
      rfl

end Cert.Proof.Scale

end
-- ==== Proof.Block.lean ====
/-
  ONE BLOCK DEQUANTISED, as a vector of any width `C`: 128 rows of codes times the scale of each column. The kernel's
  scale is a row of packed words, repeated over 64 rows and read as 128 rows of bf16.
-/
module

public import proofs.«01_k».proof.Proof.Scale
public import Idealize.ShloMosaic.Lib.Pipeline.Value
public import Idealize.ShloMosaic.Lib.ValueLayout

@[expose] public section

set_option maxRecDepth 16384

noncomputable section

namespace Cert.Proof.Block

open Idealize.ShloMosaic Idealize.ShloMosaic.ValueIdx Cert.Proof.Scale

/-- One block: the codes widened to bf16, times the row of words repeated and read as bf16. -/
def block {C : Nat} {φ : FTy} (codes : FVec Ideal ⟨3, ![1, 128, C]⟩ φ) (words : IVec ⟨2, ![1, C]⟩ 32)
    (hc : (⟨3, ![1, 128, C]⟩ : Shape).ShapeCasts ⟨2, ![128, C]⟩) (hw : (⟨2, ![1, C]⟩ : Shape).ShapeCasts ⟨2, ![1, C]⟩)
    (hb : (⟨2, ![1, C]⟩ : Shape).Broadcasts ⟨2, ![64, C]⟩) (hx : φ.bits < FTy.bits .bf16)
    (h16 : (⟨2, ![64, C]⟩ : Shape).Bitcasts 32 ⟨2, ![128, C]⟩ 16) (hs : (⟨2, ![128, C]⟩ : Shape).ShapeCasts ⟨2, ![128, C]⟩) :
    FVec Ideal ⟨2, ![128, C]⟩ .bf16 :=
  shapeCast ⟨2, ![128, C]⟩ (mulf (extf .bf16 (shapeCast ⟨2, ![128, C]⟩ codes hc) hx)
    (bitcastToFloat .bf16 (bitcast ⟨2, ![128, C]⟩ 16 (broadcastTo ⟨2, ![64, C]⟩ (shapeCast ⟨2, ![1, C]⟩ words hw) hb) h16))) hs

/-- A block at row `r`, column `c`: the code there times the scale of the byte the column's word packs. -/
theorem block_apply {C : Nat} {φ : FTy} (codes : FVec Ideal ⟨3, ![1, 128, C]⟩ φ) (words : IVec ⟨2, ![1, C]⟩ 32)
    (hc : (⟨3, ![1, 128, C]⟩ : Shape).ShapeCasts ⟨2, ![128, C]⟩) (hw : (⟨2, ![1, C]⟩ : Shape).ShapeCasts ⟨2, ![1, C]⟩)
    (hb : (⟨2, ![1, C]⟩ : Shape).Broadcasts ⟨2, ![64, C]⟩) (hx : φ.bits < FTy.bits .bf16)
    (h16 : (⟨2, ![64, C]⟩ : Shape).Bitcasts 32 ⟨2, ![128, C]⟩ 16) (hs : (⟨2, ![128, C]⟩ : Shape).ShapeCasts ⟨2, ![128, C]⟩)
    (e : BitVec 8) (r : Fin 128) (c : Fin C) (he : words (ix2 0 c) = pairWord e) :
    block codes words hc hw hb hx h16 hs (ix2 r c) = codes (ix3 0 r c) * scale e := by
  unfold block
  rw [shapeCast_self]
  show shapeCast ⟨2, ![128, C]⟩ codes hc (ix2 r c) * Ideal.ofBits .bf16 (bitcast ⟨2, ![128, C]⟩ 16 _ h16 (ix2 r c)) = _
  rw [shapeCast_1ab_ab_apply, bitcast_32_16, shapeCast_self]
  have hr := r.isLt
  have hrow : (⟨2, ![128, C]⟩ : Shape).row (ix2 r c) / 2 < 64 := by
    show r.val / 2 < 64
    omega
  have hsrc : ∀ p hp (h : p < 64), h16.srcIdx (ix2 r c) p hp = ix2 (⟨p, h⟩ : Fin 64) c := by
    intro p hp h
    funext a; apply Fin.ext
    match a with
    | ⟨0, _⟩ => rfl
    | ⟨1, _⟩ => rfl
  rw [hsrc _ _ hrow, broadcastTo_1b_ab_apply, he, pairWord_half e _ (Nat.mod_lt _ (by decide))]
  rfl

/-- The words of 32 rows of scale bytes. -/
def words {C : Nat} (s : IVec ⟨3, ![1, 32, C]⟩ 8) (hc : (⟨3, ![1, 32, C]⟩ : Shape).ShapeCasts ⟨2, ![32, C]⟩)
    (hx : 8 < 32) (hs : (⟨2, ![32, C]⟩ : Shape).ShapeCasts ⟨2, ![32, C]⟩) : IVec ⟨2, ![32, C]⟩ 32 :=
  shapeCast ⟨2, ![32, C]⟩ (ori (shli (extui 32 (shapeCast ⟨2, ![32, C]⟩ s hc) hx) (broadcast ⟨2, ![32, C]⟩ 7#32))
    (shli (extui 32 (shapeCast ⟨2, ![32, C]⟩ s hc) hx) (broadcast ⟨2, ![32, C]⟩ 23#32))) hs

/-- They are, at every index, the packed word of the byte there. -/
theorem words_apply {C : Nat} (s : IVec ⟨3, ![1, 32, C]⟩ 8) (hc : (⟨3, ![1, 32, C]⟩ : Shape).ShapeCasts ⟨2, ![32, C]⟩)
    (hx : 8 < 32) (hs : (⟨2, ![32, C]⟩ : Shape).ShapeCasts ⟨2, ![32, C]⟩) (n : Fin 32) (c : Fin C) :
    words s hc hx hs (ix2 n c) = pairWord (s (ix3 0 n c)) := by
  unfold words
  rw [shapeCast_self]
  show IntOp.ori (IntOp.shli .vector ((shapeCast ⟨2, ![32, C]⟩ s hc (ix2 n c)).setWidth 32) 7#32)
    (IntOp.shli .vector ((shapeCast ⟨2, ![32, C]⟩ s hc (ix2 n c)).setWidth 32) 23#32) = _
  rw [shapeCast_1ab_ab_apply]
  rfl

/-- What 32 blocks laid one below the other hold: the code at the row, times the scale of the row's block and column. -/
def whole {C : Nat} {φ : FTy} (x : FVec Ideal ⟨3, ![1, 4096, C]⟩ φ) (s : IVec ⟨3, ![1, 32, C]⟩ 8) :
    FVec Ideal ⟨2, ![4096, C]⟩ .bf16 := fun y =>
  x (ix3 0 (y 0 : Fin 4096) (y 1 : Fin C))
    * scale (s (ix3 0 (⟨(y 0).val / 128, by have h : (y 0).val < 4096 := (y 0).isLt; omega⟩ : Fin 32) (y 1 : Fin C)))

/-- Block `n` of the 32, made of the rows loaded from the codes at `128 n` and from the words at row `n`, is rows
    `128 n …` of the whole. -/
theorem block_eq_whole {C : Nat} {φ : FTy} (x : FVec Ideal ⟨3, ![1, 4096, C]⟩ φ) (s : IVec ⟨3, ![1, 32, C]⟩ 8)
    (hc : (⟨3, ![1, 128, C]⟩ : Shape).ShapeCasts ⟨2, ![128, C]⟩) (hw : (⟨2, ![1, C]⟩ : Shape).ShapeCasts ⟨2, ![1, C]⟩)
    (hb : (⟨2, ![1, C]⟩ : Shape).Broadcasts ⟨2, ![64, C]⟩) (hx : φ.bits < FTy.bits .bf16)
    (h16 : (⟨2, ![64, C]⟩ : Shape).Bitcasts 32 ⟨2, ![128, C]⟩ 16) (hs : (⟨2, ![128, C]⟩ : Shape).ShapeCasts ⟨2, ![128, C]⟩)
    (hc' : (⟨3, ![1, 32, C]⟩ : Shape).ShapeCasts ⟨2, ![32, C]⟩) (hx' : 8 < 32)
    (hs' : (⟨2, ![32, C]⟩ : Shape).ShapeCasts ⟨2, ![32, C]⟩) (o n : Nat) (ho : o = 128 * n)
    (i1 : ∀ a, (![0, o, 0] : Fin 3 → Nat) a + (![1, 128, C] : Fin 3 → Nat) a ≤ (![1, 4096, C] : Fin 3 → Nat) a)
    (i2 : ∀ a, (![n, 0] : Fin 2 → Nat) a + (![1, C] : Fin 2 → Nat) a ≤ (![32, C] : Fin 2 → Nat) a)
    (i3 : ∀ a, (![o, 0] : Fin 2 → Nat) a + (![128, C] : Fin 2 → Nat) a ≤ (![4096, C] : Fin 2 → Nat) a)
    (y : (⟨2, ![128, C]⟩ : Shape).Idx) :
    block (fun z => x ((Rect.unit (s := ⟨3, ![1, 4096, C]⟩) ![0, o, 0] ![1, 128, C] i1).idx z))
        (fun z => words s hc' hx' hs' ((Rect.unit (s := ⟨2, ![32, C]⟩) ![n, 0] ![1, C] i2).idx z))
        hc hw hb hx h16 hs y
      = whole x s ((Rect.unit (s := ⟨2, ![4096, C]⟩) ![o, 0] ![128, C] i3).emb y) := by
  subst ho
  have hn : n < 32 := by have := i2 0; simp at this; omega
  obtain ⟨r, c, rfl⟩ : ∃ (r : Fin 128) (c : Fin C), y = ix2 r c := ⟨y 0, y 1, eq_ix2 y⟩
  have hr := r.isLt
  have hcl := c.isLt
  rw [block_apply (e := s (ix3 0 ⟨n, hn⟩ c))]
  · unfold whole
    congr 1
    · refine congrArg x ?_
      funext a; apply Fin.ext
      match a with
      | ⟨0, _⟩ => rfl
      | ⟨1, _⟩ => rfl
      | ⟨2, _⟩ => rfl
    · refine congrArg scale (congrArg s ?_)
      funext a; apply Fin.ext
      match a with
      | ⟨0, _⟩ => rfl
      | ⟨1, _⟩ => show n = (128 * n + 1 * r.val) / 128; omega
      | ⟨2, _⟩ => show c.val = 0 + 1 * c.val; omega
  · refine Eq.trans ?_ (words_apply s hc' hx' hs' ⟨n, hn⟩ c)
    refine congrArg (words s hc' hx' hs') ?_
    funext a; apply Fin.ext
    match a with
    | ⟨0, _⟩ => rfl
    | ⟨1, _⟩ => show 0 + 1 * c.val = c.val; omega

end Cert.Proof.Block

end
-- ==== Proof.Point.lean ====
/-
  WHAT ONE GRID POINT OF THE KERNEL LEAVES in its output block: what it found there plus the product of the two
  dequantised chunks. The two chunks are laid in scratch block by block, 32 blocks each, and loaded back whole.
-/
module

public import proofs.«01_k».proof.Proof.Block
public import proofs.«01_k».proof.Proof.Gen.KernelIdeal.Value
public import Idealize.ShloMosaic.Lib.Pipeline.ReadBack
public import Idealize.ShloMosaic.Lib.Tactic

@[expose] public section

set_option maxRecDepth 16384

noncomputable section

namespace Cert.Proof.Point

open Idealize.ShloMosaic Idealize.ShloMosaic.TcCoe Idealize.SL.Sem
open Cert.KernelIdeal Cert.KernelIdeal.Gen Cert.Proof.Block

/-- A rank-2 offset of zeros is zero on every axis. -/
theorem hz : (![0, 0] : Fin 2 → Nat) = fun _ => 0 := funext fun a => by fin_cases a <;> rfl
/-- A rank-3 offset of zeros is zero on every axis. -/
theorem hz3 : (![0, 0, 0] : Fin 3 → Nat) = fun _ => 0 := funext fun a => by fin_cases a <;> rfl

/-- The words laid in scratch, read at one row: the words of the scale bytes at that row. -/
theorem words_row {s : Shape} {e : EltTy} (v : View sig .tc .vmem s e) (w : s.Idx → Elt Ideal e) {off : Fin s.rank → Nat}
    (h : off = fun _ => 0) (inb : ∀ a, off a + s.size a ≤ s.size a) (r : Rect s) :
    v.readCov [(⟨Rect.unit off s.size inb, w⟩ : View.Piece (Elt Ideal) s e)] r.toLoadRect = fun z => w (r.idx z) := by
  rw [View.readCov_eq_canon', View.canon_unit_zero h]

/-- One block of `x`, made of the rows at `128 n` and the words at row `n`, is its rows of the dequantised chunk. -/
theorem x_block (x0 : Vec Ideal S1x4096x896 .fp8e4m3) (x1 : Vec Ideal S1x32x896 .i8) (o n : Nat) (ho : o = 128 * n)
    (i1 : ∀ a, (![0, o, 0] : Fin 3 → Nat) a + (![1, 128, 896] : Fin 3 → Nat) a ≤ (![1, 4096, 896] : Fin 3 → Nat) a)
    (i2 : ∀ a, (![n, 0] : Fin 2 → Nat) a + (![1, 896] : Fin 2 → Nat) a ≤ (![32, 896] : Fin 2 → Nat) a)
    (i3 : ∀ a, (![o, 0] : Fin 2 → Nat) a + (![128, 896] : Fin 2 → Nat) a ≤ (![4096, 896] : Fin 2 → Nat) a) (y : S128x896.Idx) :
    k0_pay9 (F := Ideal) (View.ld (S := S1x4096x896) x0 (Rect.unit (s := S1x4096x896) ![0, o, 0] ![1, 128, 896] i1))
        (fun z => k0_pay3 (F := Ideal) x1 ((Rect.unit (s := S32x896) ![n, 0] ![1, 896] i2).idx z)) y
      = (whole (φ := .fp8e4m3) x0 x1) ((Rect.unit (s := S4096x896) ![o, 0] ![128, 896] i3).emb y) :=
  block_eq_whole (φ := .fp8e4m3) x0 x1 _ _ _ _ _ _ _ _ _ o n ho i1 i2 i3 y

/-- Every block the body stores into the scratch of `x` is its rows of the dequantised chunk. -/
theorem x_pieces (c : Dev nD) (arg2 : Memref sig .tc .vmem S1x4096x896 .fp8e4m3) (harg2 : arg2.IsWhole) (arg3 : Memref sig .tc .vmem S1x32x896 .i8) (harg3 : arg3.IsWhole) (arg10 : Memref sig .tc .vmem S32x896 .i32)
    (x0 : Vec Ideal S1x4096x896 .fp8e4m3) (x1 : Vec Ideal S1x32x896 .i8) :
    View.PiecesOf (whole (φ := .fp8e4m3) x0 x1) (kernelRun0_B.sl.HS0_32 c arg2 harg2 arg3 harg3 arg10 x0 x1) := by
  sl_unfold_words
  simp only [View.readAt_eq_ld, harg2.read_unread, harg3.read_unread, View.ld_unit_zero (S := S1x32x896) hz3, words_row (s := S32x896) _ _ hz]
  unfold View.PiecesOf
  repeat refine ⟨fun y => x_block x0 x1 _ _ (by decide) (by decide) (by decide) (by decide) y, ?_⟩
  exact trivial

/-- So the scratch of `x`, loaded back whole, is the dequantised chunk. -/
theorem x_scratch {sp : Space} (v : View sig .tc sp S4096x896 .bf16) (c : Dev nD) (arg2 : Memref sig .tc .vmem S1x4096x896 .fp8e4m3) (harg2 : arg2.IsWhole) (arg3 : Memref sig .tc .vmem S1x32x896 .i8) (harg3 : arg3.IsWhole) (arg10 : Memref sig .tc .vmem S32x896 .i32)
    (x0 : Vec Ideal S1x4096x896 .fp8e4m3) (x1 : Vec Ideal S1x32x896 .i8) :
    v.readCov (kernelRun0_B.sl.HS0_32 c arg2 harg2 arg3 harg3 arg10 x0 x1) (Rect.unit ![0, 0] S4096x896.size inb_S4096x896_S4096x896_0_0).toLoadRect
      = (whole (φ := .fp8e4m3) x0 x1) := by
  have hcov : ∀ y, ∃ p ∈ kernelRun0_B.sl.HS0_32 c arg2 harg2 arg3 harg3 arg10 x0 x1, y ∈ p.1.set :=
    View.cover_of_tiledL _ S128x896.size (by sl_kernel_rfl)
  rw [View.readCov_eq_canon_ld _ _ _ hcov, View.ld_unit_zero (S := S4096x896) hz]
  exact funext fun y => View.canon_apply_of_pieces _ _ (x_pieces c arg2 harg2 arg3 harg3 arg10 x0 x1).mem y (hcov y)

/-- One block of `dy`, made of the rows at `128 n` and the words at row `n`, is its rows of the dequantised chunk. -/
theorem dy_block (x2 : Vec Ideal S1x4096x960 .fp8e5m2) (x3 : Vec Ideal S1x32x960 .i8) (o n : Nat) (ho : o = 128 * n)
    (i1 : ∀ a, (![0, o, 0] : Fin 3 → Nat) a + (![1, 128, 960] : Fin 3 → Nat) a ≤ (![1, 4096, 960] : Fin 3 → Nat) a)
    (i2 : ∀ a, (![n, 0] : Fin 2 → Nat) a + (![1, 960] : Fin 2 → Nat) a ≤ (![32, 960] : Fin 2 → Nat) a)
    (i3 : ∀ a, (![o, 0] : Fin 2 → Nat) a + (![128, 960] : Fin 2 → Nat) a ≤ (![4096, 960] : Fin 2 → Nat) a) (y : S128x960.Idx) :
    k0_pay8 (F := Ideal) (View.ld (S := S1x4096x960) x2 (Rect.unit (s := S1x4096x960) ![0, o, 0] ![1, 128, 960] i1))
        (fun z => k0_pay4 (F := Ideal) x3 ((Rect.unit (s := S32x960) ![n, 0] ![1, 960] i2).idx z)) y
      = (whole (φ := .fp8e5m2) x2 x3) ((Rect.unit (s := S4096x960) ![o, 0] ![128, 960] i3).emb y) :=
  block_eq_whole (φ := .fp8e5m2) x2 x3 _ _ _ _ _ _ _ _ _ o n ho i1 i2 i3 y

/-- Every block the body stores into the scratch of `dy` is its rows of the dequantised chunk. -/
theorem dy_pieces (c : Dev nD) (arg4 : Memref sig .tc .vmem S1x4096x960 .fp8e5m2) (harg4 : arg4.IsWhole) (arg5 : Memref sig .tc .vmem S1x32x960 .i8) (harg5 : arg5.IsWhole) (arg11 : Memref sig .tc .vmem S32x960 .i32)
    (x2 : Vec Ideal S1x4096x960 .fp8e5m2) (x3 : Vec Ideal S1x32x960 .i8) :
    View.PiecesOf (whole (φ := .fp8e5m2) x2 x3) (kernelRun0_B.sl.HS1_32 c arg4 harg4 arg5 harg5 arg11 x2 x3) := by
  sl_unfold_words
  simp only [View.readAt_eq_ld, harg4.read_unread, harg5.read_unread, View.ld_unit_zero (S := S1x32x960) hz3, words_row (s := S32x960) _ _ hz]
  unfold View.PiecesOf
  repeat refine ⟨fun y => dy_block x2 x3 _ _ (by decide) (by decide) (by decide) (by decide) y, ?_⟩
  exact trivial

/-- So the scratch of `dy`, loaded back whole, is the dequantised chunk. -/
theorem dy_scratch {sp : Space} (v : View sig .tc sp S4096x960 .bf16) (c : Dev nD) (arg4 : Memref sig .tc .vmem S1x4096x960 .fp8e5m2) (harg4 : arg4.IsWhole) (arg5 : Memref sig .tc .vmem S1x32x960 .i8) (harg5 : arg5.IsWhole) (arg11 : Memref sig .tc .vmem S32x960 .i32)
    (x2 : Vec Ideal S1x4096x960 .fp8e5m2) (x3 : Vec Ideal S1x32x960 .i8) :
    v.readCov (kernelRun0_B.sl.HS1_32 c arg4 harg4 arg5 harg5 arg11 x2 x3) (Rect.unit ![0, 0] S4096x960.size inb_S4096x960_S4096x960_0_0).toLoadRect
      = (whole (φ := .fp8e5m2) x2 x3) := by
  have hcov : ∀ y, ∃ p ∈ kernelRun0_B.sl.HS1_32 c arg4 harg4 arg5 harg5 arg11 x2 x3, y ∈ p.1.set :=
    View.cover_of_tiledL _ S128x960.size (by sl_kernel_rfl)
  rw [View.readCov_eq_canon_ld _ _ _ hcov, View.ld_unit_zero (S := S4096x960) hz]
  exact funext fun y => View.canon_apply_of_pieces _ _ (dy_pieces c arg4 harg4 arg5 harg5 arg11 x2 x3).mem y (hcov y)

/-- A point after the first leaves the output block it found plus the product of the two chunks. -/
theorem out_B (c : Dev nD) (i : grid0.Coords) (arg2 : Memref sig .tc .vmem S1x4096x896 .fp8e4m3) (harg2 : arg2.IsWhole) (arg3 : Memref sig .tc .vmem S1x32x896 .i8) (harg3 : arg3.IsWhole) (arg4 : Memref sig .tc .vmem S1x4096x960 .fp8e5m2) (harg4 : arg4.IsWhole) (arg5 : Memref sig .tc .vmem S1x32x960 .i8) (harg5 : arg5.IsWhole) (arg6 : Memref sig .tc .vmem S896x960 .f32) (harg6 : arg6.IsWhole) (arg7 : Memref sig .tc .vmem S896x960 .f32) (harg7 : arg7.IsWhole) (arg8 : Memref sig .tc .vmem S4096x896 .bf16) (harg8 : arg8.IsWhole) (arg9 : Memref sig .tc .vmem S4096x960 .bf16) (harg9 : arg9.IsWhole) (arg10 : Memref sig .tc .vmem S32x896 .i32) (harg10 : arg10.IsWhole) (arg11 : Memref sig .tc .vmem S32x960 .i32) (harg11 : arg11.IsWhole) (hc0 : ¬cond0_0 i)
    (x0 : Vec Ideal S1x4096x896 .fp8e4m3) (x1 : Vec Ideal S1x32x896 .i8) (x2 : Vec Ideal S1x4096x960 .fp8e5m2) (x3 : Vec Ideal S1x32x960 .i8) (x4 : Vec Ideal S896x960 .f32) (xo5 : Vec Ideal S896x960 .f32) :
    out0_B_5 c i arg2 harg2 arg3 harg3 arg4 harg4 arg5 harg5 arg6 harg6 arg7 harg7 arg8 harg8 arg9 harg9 arg10 harg10 arg11 harg11 hc0 x0 x1 x2 x3 x4 xo5 = k0_pay2 (F := Ideal) xo5 (whole (φ := .fp8e4m3) x0 x1) (whole (φ := .fp8e5m2) x2 x3) := by
  unfold out0_B_5
  rw [View.read_writes_junk_eq_canon]
  unfold kernelRun0_B
  dsimp only
  rw [View.canon_unit_zero hz]
  unfold kernelRun0_B.sl.v733 kernelRun0_B.sl.v734
  rw [View.readAt_eq_ld, harg7.read_unread, View.ld_unit_zero (S := S896x960) hz]
  exact congrArg₂ (k0_pay2 (F := Ideal) xo5) (x_scratch arg8.view c arg2 harg2 arg3 harg3 arg10 x0 x1) (dy_scratch arg9.view c arg4 harg4 arg5 harg5 arg11 x2 x3)

/-- The first point leaves the gradient accumulated so far plus the product of the two chunks. -/
theorem out_A (c : Dev nD) (i : grid0.Coords) (arg2 : Memref sig .tc .vmem S1x4096x896 .fp8e4m3) (harg2 : arg2.IsWhole) (arg3 : Memref sig .tc .vmem S1x32x896 .i8) (harg3 : arg3.IsWhole) (arg4 : Memref sig .tc .vmem S1x4096x960 .fp8e5m2) (harg4 : arg4.IsWhole) (arg5 : Memref sig .tc .vmem S1x32x960 .i8) (harg5 : arg5.IsWhole) (arg6 : Memref sig .tc .vmem S896x960 .f32) (harg6 : arg6.IsWhole) (arg7 : Memref sig .tc .vmem S896x960 .f32) (harg7 : arg7.IsWhole) (arg8 : Memref sig .tc .vmem S4096x896 .bf16) (harg8 : arg8.IsWhole) (arg9 : Memref sig .tc .vmem S4096x960 .bf16) (harg9 : arg9.IsWhole) (arg10 : Memref sig .tc .vmem S32x896 .i32) (harg10 : arg10.IsWhole) (arg11 : Memref sig .tc .vmem S32x960 .i32) (harg11 : arg11.IsWhole) (hc0 : cond0_0 i)
    (x0 : Vec Ideal S1x4096x896 .fp8e4m3) (x1 : Vec Ideal S1x32x896 .i8) (x2 : Vec Ideal S1x4096x960 .fp8e5m2) (x3 : Vec Ideal S1x32x960 .i8) (x4 : Vec Ideal S896x960 .f32) :
    out0_A_5 c i arg2 harg2 arg3 harg3 arg4 harg4 arg5 harg5 arg6 harg6 arg7 harg7 arg8 harg8 arg9 harg9 arg10 harg10 arg11 harg11 hc0 x0 x1 x2 x3 x4 = k0_pay2 (F := Ideal) x4 (whole (φ := .fp8e4m3) x0 x1) (whole (φ := .fp8e5m2) x2 x3) := by
  unfold out0_A_5
  rw [View.read_writes_junk_eq_canon]
  unfold kernelRun0_A
  dsimp only
  rw [View.canon_cons_unit_zero (S := S896x960) hz]
  unfold kernelRun0_A.sl.v731 kernelRun0_A.sl.v733 kernelRun0_A.sl.v734 kernelRun0_A.sl.H5_1
  rw [View.readCov_unit_zero (S := S896x960) _ hz, View.readAt_eq_ld, harg6.read_unread, View.ld_unit_zero (S := S896x960) hz]
  exact congrArg₂ (k0_pay2 (F := Ideal) x4) (x_scratch arg8.view c arg2 harg2 arg3 harg3 arg10 x0 x1) (dy_scratch arg9.view c arg4 harg4 arg5 harg5 arg11 x2 x3)

end Cert.Proof.Point

end
-- ==== Proof.Gradient.lean ====
/-
  THE WEIGHT GRADIENT as one function of the five arrays: what both programs are proved to compute.
-/
module

public import proofs.«01_k».proof.Proof.Scale
public import Idealize.ShloMosaic.Lib.ValueIdxCore

@[expose] public section

noncomputable section

namespace Cert.Proof.Gradient

open Idealize.ShloMosaic Idealize.ShloMosaic.ValueIdx Cert.Proof.Scale

/-- An array of codes dequantised, at batch `b`, row `l`, column `c`: the code there times the scale of the block of 128
    rows it lies in. -/
def deq {C : Nat} {φ : FTy} (x : FVec Ideal ⟨3, ![48, 8192, C]⟩ φ) (s : IVec ⟨3, ![48, 64, C]⟩ 8)
    (b : Fin 48) (l : Fin 8192) (c : Fin C) : EReal :=
  x (ix3 b l c) * scale (s (ix3 b (⟨l.val / 128, by have h := l.isLt; omega⟩ : Fin 64) c))

/-- The gradient accumulated so far plus the sum, over the batches and rows, of the products of the dequantised arrays. -/
def gradient (x : FVec Ideal ⟨3, ![48, 8192, 896]⟩ .fp8e4m3) (xs : IVec ⟨3, ![48, 64, 896]⟩ 8)
    (dy : FVec Ideal ⟨3, ![48, 8192, 960]⟩ .fp8e5m2) (dys : IVec ⟨3, ![48, 64, 960]⟩ 8)
    (mg : FVec Ideal ⟨2, ![896, 960]⟩ .f32) : FVec Ideal ⟨2, ![896, 960]⟩ .f32 := fun y =>
  mg y + ∑ b : Fin 48, ∑ l : Fin 8192, deq x xs b l (y 0 : Fin 896) * deq dy dys b l (y 1 : Fin 960)

end Cert.Proof.Gradient

end
-- ==== Proof.Array.lean ====
/-
  WHAT THE KERNEL'S RESULT ARRAY HOLDS: the body's output block accumulated over the 96 grid points, each point reading
  half a batch, is the weight gradient.
-/
module

public import proofs.«01_k».proof.Proof.Point
public import proofs.«01_k».proof.Proof.Gradient
public import Idealize.ShloMosaic.PureOps.Ideal.Laws
public import Idealize.ShloMosaic.Lib.Pipeline.ValueKit

@[expose] public section

set_option maxRecDepth 16384

noncomputable section

namespace Cert.Proof.Array

open Idealize.ShloMosaic Idealize.ShloMosaic.TcCoe Idealize.ShloMosaic.ValueIdx Idealize.SL.Sem
open Cert.KernelIdeal Cert.KernelIdeal.Gen Cert.Proof.Scale Cert.Proof.Block Cert.Proof.Gradient

/-- The body's last step at one element: what the output block held plus the sum over the 4096 rows of the products. -/
theorem product_apply (acc : Vec Ideal S896x960 .f32) (a : Vec Ideal S4096x896 .bf16) (b : Vec Ideal S4096x960 .bf16)
    (i : Fin 896) (o : Fin 960) :
    k0_pay2 (F := Ideal) acc a b (ValueIdx.ix2 i o) = acc (ValueIdx.ix2 i o) + ∑ k : Fin 4096, a (ValueIdx.ix2 k i) * b (ValueIdx.ix2 k o) := by
  unfold k0_pay2
  rw [shapeCast_self]
  let D := dot_S4096x896_S4096x960_S896x960_0_0_1_1_n_n
  show acc (ValueIdx.ix2 i o) + FloatOps.matmul D none a b (constant (F := Ideal) S896x960 .f32 0x00000000#32) (ValueIdx.ix2 i o) = _
  have hr : D.contr.rank = 1 := rfl
  have hs : D.contr.size ⟨0, by rw [hr]; omega⟩ = 4096 := rfl
  rw [Ideal.matmul_apply, ← Equiv.sum_comp (contrEquiv1 D 4096 hr hs).symm]
  have h0 : (constant (F := Ideal) S896x960 .f32 0x00000000#32 : FVec Ideal S896x960 .f32) (ValueIdx.ix2 i o) = 0 := by
    show Ideal.ofBits .f32 0x00000000#32 = 0
    simp
  rw [h0, zero_add]
  refine congrArg (acc (ValueIdx.ix2 i o) + ·) (Finset.sum_congr rfl fun k _ => ?_)
  have hk := contrEquiv1_symm_val D 4096 hr hs k
  have el : D.lhsIdx (ValueIdx.ix2 i o) ((contrEquiv1 D 4096 hr hs).symm k) = ValueIdx.ix2 k i := by
    funext a; apply Fin.ext
    match a with
    | ⟨0, _⟩ => exact hk
    | ⟨1, _⟩ => rfl
  have er : D.rhsIdx (ValueIdx.ix2 i o) ((contrEquiv1 D 4096 hr hs).symm k) = ValueIdx.ix2 k o := by
    funext a; apply Fin.ext
    match a with
    | ⟨0, _⟩ => exact hk
    | ⟨1, _⟩ => rfl
  rw [el, er]

/-- Point `t` reads half `t % 2` of batch `t / 2`: the block of codes of `x`. -/
theorem index_0 : ∀ t : Fin cfg0.N, win0_0.index t (0 : Fin 3) = t.val / 2 ∧ win0_0.index t (1 : Fin 3) = t.val % 2
    ∧ win0_0.index t (2 : Fin 3) = 0 := (by decide +kernel : ∀ t : Fin grid0.N, _)
/-- … the block of scale bytes of `x`. -/
theorem index_1 : ∀ t : Fin cfg0.N, win0_1.index t (0 : Fin 3) = t.val / 2 ∧ win0_1.index t (1 : Fin 3) = t.val % 2
    ∧ win0_1.index t (2 : Fin 3) = 0 := (by decide +kernel : ∀ t : Fin grid0.N, _)
/-- … the block of codes of `dy`. -/
theorem index_2 : ∀ t : Fin cfg0.N, win0_2.index t (0 : Fin 3) = t.val / 2 ∧ win0_2.index t (1 : Fin 3) = t.val % 2
    ∧ win0_2.index t (2 : Fin 3) = 0 := (by decide +kernel : ∀ t : Fin grid0.N, _)
/-- … the block of scale bytes of `dy`. -/
theorem index_3 : ∀ t : Fin cfg0.N, win0_3.index t (0 : Fin 3) = t.val / 2 ∧ win0_3.index t (1 : Fin 3) = t.val % 2
    ∧ win0_3.index t (2 : Fin 3) = 0 := (by decide +kernel : ∀ t : Fin grid0.N, _)
/-- The gradient accumulated so far is read whole at every point. -/
theorem index_4 : ∀ t : Fin cfg0.N, win0_4.index t (0 : Fin 2) = 0 ∧ win0_4.index t (1 : Fin 2) = 0 :=
  (by decide +kernel : ∀ t : Fin grid0.N, _)

variable (m : (ℓ : Loc nD τ sig) → Buf (Elt Ideal) ℓ)

/-- The dequantised chunk of `x` at point `t`, row `k`, is the dequantised array at batch `t / 2`, row `4096 (t % 2) + k`. -/
theorem x_chunk (c : Dev nD) (t : Fin cfg0.N) (k : Fin 4096) (i : Fin 896) (hb : t.val / 2 < 48)
    (hl : t.val % 2 * 4096 + k.val < 8192) :
    whole (φ := .fp8e4m3) (iblk m c 0 t) (iblk m c 1 t) (ValueIdx.ix2 k i)
      = deq (φ := .fp8e4m3) (m (c.tc.loc main_arg0)) (m (c.tc.loc main_arg1)) ⟨t.val / 2, hb⟩ ⟨t.val % 2 * 4096 + k.val, hl⟩ i := by
  have hk := k.isLt
  obtain ⟨a0, a1, a2⟩ := index_0 t
  obtain ⟨b0, b1, b2⟩ := index_1 t
  unfold whole deq
  refine congrArg₂ (· * ·) ?_ (congrArg scale ?_)
  · unfold iblk
    rw [View.read_apply]
    show V m c main_arg0 _ = m (c.tc.loc main_arg0) _
    rw [V_main_arg0]
    refine congrArg (m (c.tc.loc main_arg0)) ?_
    funext a; apply Fin.ext
    match a with
    | ⟨0, _⟩ => show win0_0.index t (0 : Fin 3) * 1 + 1 * 0 = t.val / 2; omega
    | ⟨1, _⟩ => show win0_0.index t (1 : Fin 3) * 4096 + 1 * k.val = t.val % 2 * 4096 + k.val; omega
    | ⟨2, _⟩ => show win0_0.index t (2 : Fin 3) * 896 + 1 * i.val = i.val; omega
  · unfold iblk
    rw [View.read_apply]
    show V m c main_arg1 _ = m (c.tc.loc main_arg1) _
    rw [V_main_arg1]
    refine congrArg (m (c.tc.loc main_arg1)) ?_
    funext a; apply Fin.ext
    match a with
    | ⟨0, _⟩ => show win0_1.index t (0 : Fin 3) * 1 + 1 * 0 = t.val / 2; omega
    | ⟨1, _⟩ => show win0_1.index t (1 : Fin 3) * 32 + 1 * (k.val / 128) = (t.val % 2 * 4096 + k.val) / 128; omega
    | ⟨2, _⟩ => show win0_1.index t (2 : Fin 3) * 896 + 1 * i.val = i.val; omega

/-- The dequantised chunk of `dy` at point `t`, row `k`, is the dequantised array at batch `t / 2`, row `4096 (t % 2) + k`. -/
theorem dy_chunk (c : Dev nD) (t : Fin cfg0.N) (k : Fin 4096) (o : Fin 960) (hb : t.val / 2 < 48)
    (hl : t.val % 2 * 4096 + k.val < 8192) :
    whole (φ := .fp8e5m2) (iblk m c 2 t) (iblk m c 3 t) (ValueIdx.ix2 k o)
      = deq (φ := .fp8e5m2) (m (c.tc.loc main_arg2)) (m (c.tc.loc main_arg3)) ⟨t.val / 2, hb⟩ ⟨t.val % 2 * 4096 + k.val, hl⟩ o := by
  have hk := k.isLt
  obtain ⟨a0, a1, a2⟩ := index_2 t
  obtain ⟨b0, b1, b2⟩ := index_3 t
  unfold whole deq
  refine congrArg₂ (· * ·) ?_ (congrArg scale ?_)
  · unfold iblk
    rw [View.read_apply]
    show V m c main_arg2 _ = m (c.tc.loc main_arg2) _
    rw [V_main_arg2]
    refine congrArg (m (c.tc.loc main_arg2)) ?_
    funext a; apply Fin.ext
    match a with
    | ⟨0, _⟩ => show win0_2.index t (0 : Fin 3) * 1 + 1 * 0 = t.val / 2; omega
    | ⟨1, _⟩ => show win0_2.index t (1 : Fin 3) * 4096 + 1 * k.val = t.val % 2 * 4096 + k.val; omega
    | ⟨2, _⟩ => show win0_2.index t (2 : Fin 3) * 960 + 1 * o.val = o.val; omega
  · unfold iblk
    rw [View.read_apply]
    show V m c main_arg3 _ = m (c.tc.loc main_arg3) _
    rw [V_main_arg3]
    refine congrArg (m (c.tc.loc main_arg3)) ?_
    funext a; apply Fin.ext
    match a with
    | ⟨0, _⟩ => show win0_3.index t (0 : Fin 3) * 1 + 1 * 0 = t.val / 2; omega
    | ⟨1, _⟩ => show win0_3.index t (1 : Fin 3) * 32 + 1 * (k.val / 128) = (t.val % 2 * 4096 + k.val) / 128; omega
    | ⟨2, _⟩ => show win0_3.index t (2 : Fin 3) * 960 + 1 * o.val = o.val; omega

/-- The gradient accumulated so far: the fifth argument. -/
abbrev start (c : Dev nD) : Vec Ideal S896x960 .f32 := m (c.tc.loc main_arg4)

/-- The gradient accumulated so far, as a point reads it, is the fifth argument. -/
theorem mg_block (c : Dev nD) (t : Fin cfg0.N) (y : S896x960.Idx) : iblk m c 4 t y = start m c y := by
  obtain ⟨a0, a1⟩ := index_4 t
  unfold iblk
  rw [View.read_apply]
  show V m c main_arg4 _ = m (c.tc.loc main_arg4) _
  rw [V_main_arg4]
  refine congrArg (m (c.tc.loc main_arg4)) ?_
  funext a; apply Fin.ext
  match a with
  | ⟨0, _⟩ => show win0_4.index t (0 : Fin 2) * 896 + 1 * (y 0).val = (y 0).val; omega
  | ⟨1, _⟩ => show win0_4.index t (1 : Fin 2) * 960 + 1 * (y 1).val = (y 1).val; omega

/-- What point `t` adds at one element of the output: the sum over its 4096 rows. -/
def term (c : Dev nD) (t : Fin cfg0.N) (y : S896x960.Idx) : EReal :=
  ∑ k : Fin 4096, whole (φ := .fp8e4m3) (iblk m c 0 t) (iblk m c 1 t) (ValueIdx.ix2 k (y 0 : Fin 896))
    * whole (φ := .fp8e5m2) (iblk m c 2 t) (iblk m c 3 t) (ValueIdx.ix2 k (y 1 : Fin 960))

/-- The body's last step with the chunks of point `t` adds `term`. -/
theorem product_term (c : Dev nD) (t : Fin cfg0.N) (acc : Vec Ideal S896x960 .f32) (y : S896x960.Idx) :
    k0_pay2 (F := Ideal) acc (whole (φ := .fp8e4m3) (iblk m c 0 t) (iblk m c 1 t)) (whole (φ := .fp8e5m2) (iblk m c 2 t) (iblk m c 3 t)) y
      = acc y + term m c t y := by
  obtain ⟨i, o, rfl⟩ : ∃ (i : Fin 896) (o : Fin 960), y = ValueIdx.ix2 i o := ⟨y 0, y 1, ValueIdx.eq_ix2 y⟩
  exact product_apply _ _ _ i o

/-- The last grid point. -/
abbrev last : Fin cfg0.N := ⟨95, by rw [show cfg0.N = 96 from N_0]; decide⟩

/-- After the last point the output block holds the fifth argument plus every point's term. -/
theorem outs_last (c : Dev nD) (y : S896x960.Idx) :
    outsAt0 m c last.val last.isLt y = start m c y + ∑ t : Fin cfg0.N, term m c t y :=
  Pipeline.eq_sum_fin_of_reset_step_apply_last (fun n h => outsAt0 m c n h) 96 (start m c) (term m c)
    (fun t h j => by rw [outsAt0_A m c t h, Point.out_A, product_term, mg_block])
    (fun t h j => by rw [outsAt0_B m c t h, Point.out_B, product_term])
    (le_of_eq N_0) last rfl y

/-- The points' terms, 48 batches of 2 halves of 4096 rows, are the sum over the batches and their 8192 rows. -/
theorem sum_term (c : Dev nD) (y : S896x960.Idx) :
    ∑ t : Fin cfg0.N, term m c t y = ∑ b : Fin 48, ∑ l : Fin 8192,
      deq (φ := .fp8e4m3) (m (c.tc.loc main_arg0)) (m (c.tc.loc main_arg1)) b l (y 0 : Fin 896)
        * deq (φ := .fp8e5m2) (m (c.tc.loc main_arg2)) (m (c.tc.loc main_arg3)) b l (y 1 : Fin 960) :=
  Fin.sum_points_lanes_congr 2 (fun t k hb hl => by rw [x_chunk m c t k (y 0) hb hl, dy_chunk m c t k (y 1) hb hl])

/-- The weight gradient of the five arguments. -/
abbrev result (c : Dev nD) : Vec Ideal S896x960 .f32 :=
  gradient (m (c.tc.loc main_arg0)) (m (c.tc.loc main_arg1)) (m (c.tc.loc main_arg2)) (m (c.tc.loc main_arg3)) (m (c.tc.loc main_arg4))

/-- After the last point the output block holds it. -/
theorem outs_eq (c : Dev nD) (n : ℕ) (h : n < cfg0.N) (hn : n = 95) : outsAt0 m c n h = result m c := by
  subst hn
  exact funext fun y => (outs_last m c y).trans (congrArg (start m c y + ·) (sum_term m c y))

/-- The output window's one block starts at the origin. -/
theorem index_5 : ∀ t : Fin cfg0.N, win0_5.index t (0 : Fin 2) = 0 ∧ win0_5.index t (1 : Fin 2) = 0 :=
  (by decide +kernel : ∀ t : Fin grid0.N, _)

/-- So an index of the output block is the same index of the result array. -/
theorem emb_5 (t : Fin cfg0.N) (j : S896x960.Idx) : ((cfg0.win 5).blk t).view.emb j = j := by
  obtain ⟨e0, e1⟩ := index_5 t
  funext a; apply Fin.ext
  match a with
  | ⟨0, _⟩ => show win0_5.index t (0 : Fin 2) * 896 + 1 * (j 0).val = (j 0).val; omega
  | ⟨1, _⟩ => show win0_5.index t (1 : Fin 2) * 960 + 1 * (j 1).val = (j 1).val; omega

/-- Cutting the block out of an array's contents and reading them through the block's view give the same. -/
theorem cut_5 (t : Fin cfg0.N) (X : Vec Ideal S896x960 .f32) :
    (cfg0.win 5).cut (grid0.coords t) X = ((cfg0.win 5).blk t).view.read (Elt Ideal) X := by
  funext j
  show X j = X (((cfg0.win 5).blk t).view.emb j)
  rw [emb_5]

/-- The one write-back, at the last point, writes the weight gradient. -/
theorem flushed (c : Dev nD) (t : Fin cfg0.N) (hf : (cfg0.win 5).flush t = true) :
    (dats m 0 c).flushed 5 t = ((cfg0.win 5).blk t).view.read (Elt Ideal) (result m c) := by
  have hN : cfg0.N = 96 := N_0
  have h95 : t.val = 95 := by have := (flush0_5 t).mp hf; have := t.isLt; omega
  rw [Value.flushed5, outs_eq m c t.val t.isLt h95]
  exact cut_5 t _

/-- So the result array ends holding the weight gradient of the arguments. -/
theorem final (c : Dev nD) : (dats m 0 c).arrAt 5 cfg0.N = result m c :=
  (dats m 0 c).arrAt_eq_of_cover 5 (result m c) (flushed m c) fun i =>
    ⟨last, (flush0_5 last).mpr rfl, by have h := ((cfg0.win 5).blk last).view.emb_mem_set i; rwa [emb_5] at h⟩

end Cert.Proof.Array

end
-- ==== Proof.Reference.lean ====
/-
  WHAT THE REFERENCE COMPUTES: its one expression over the five arrays is the weight gradient.
-/
module

public import proofs.«01_k».proof.Proof.Gradient
public import proofs.«01_k».proof.Proof.Gen.ReferenceIdeal.Value
public import Idealize.ShloMosaic.PureOps.Ideal.Laws
public import Idealize.ShloMosaic.Lib.ValueLayout
public import Idealize.ShloMosaic.Lib.Pipeline.ValueKit

@[expose] public section

set_option maxRecDepth 16384

noncomputable section

namespace Cert.Proof.Reference

open Idealize.ShloMosaic Idealize.SL.Sem
open Cert.ReferenceIdeal Cert.ReferenceIdeal.Gen Cert.Proof.Scale Cert.Proof.Gradient

/-- The reference's scales: two to the power of the byte less 127, zero below the normal exponents and infinite above. -/
def scales {C : Nat} (s : IVec ⟨3, ![48, 64, C]⟩ 8) (h : 8 < 32) (ht : FTy.bits .bf16 < FTy.bits .f32) :
    FVec Ideal ⟨3, ![48, 64, C]⟩ .bf16 :=
  truncf .bf16 (select (cmpi .slt (subi (extui 32 s h) (broadcast ⟨3, ![48, 64, C]⟩ 127#32)) (broadcast ⟨3, ![48, 64, C]⟩ 4294967170#32))
    (broadcast ⟨3, ![48, 64, C]⟩ (Scalar.ofBits (F := Ideal) .f32 0x00000000#32))
    (select (cmpi .sgt (subi (extui 32 s h) (broadcast ⟨3, ![48, 64, C]⟩ 127#32)) (broadcast ⟨3, ![48, 64, C]⟩ 127#32))
      (broadcast ⟨3, ![48, 64, C]⟩ (Scalar.ofBits (F := Ideal) .f32 0x7F800000#32))
      (exp2 (sitofp (F := Ideal) .f32 (subi (extui 32 s h) (broadcast ⟨3, ![48, 64, C]⟩ 127#32)))))) ht

/-- They are, at every index, the scale of the byte there. -/
theorem scales_apply {C : Nat} (s : IVec ⟨3, ![48, 64, C]⟩ 8) (h : 8 < 32) (ht : FTy.bits .bf16 < FTy.bits .f32)
    (y : (⟨3, ![48, 64, C]⟩ : Shape).Idx) : scales s h ht y = scale (s y) :=
  (show scales s h ht y = refScale (s y) from rfl).trans (refScale_eq (s y))

/-- An array dequantised block by block: codes in blocks of 128 rows, each times the scale of its block and column. -/
def blocks {C : Nat} {φ : FTy} (x : FVec Ideal ⟨3, ![48, 8192, C]⟩ φ) (s : IVec ⟨3, ![48, 64, C]⟩ 8) (h : 8 < 32)
    (ht : FTy.bits .bf16 < FTy.bits .f32) (hx : φ.bits < FTy.bits .bf16)
    (h1 : (⟨3, ![48, 8192, C]⟩ : Shape).ShapeCasts ⟨4, ![48, 64, 128, C]⟩)
    (h2 : (⟨3, ![48, 64, C]⟩ : Shape).ShapeCasts ⟨4, ![48, 64, 1, C]⟩)
    (h3 : (⟨4, ![48, 64, 1, C]⟩ : Shape).Broadcasts ⟨4, ![48, 64, 128, C]⟩) : FVec Ideal ⟨4, ![48, 64, 128, C]⟩ .bf16 :=
  mulf (extf .bf16 (shapeCast ⟨4, ![48, 64, 128, C]⟩ x h1) hx)
    (broadcastTo ⟨4, ![48, 64, 128, C]⟩ (shapeCast ⟨4, ![48, 64, 1, C]⟩ (scales s h ht) h2) h3)

/-- Row `r` of block `n` is row `128 n + r` of the dequantised array. -/
theorem blocks_apply {C : Nat} {φ : FTy} (x : FVec Ideal ⟨3, ![48, 8192, C]⟩ φ) (s : IVec ⟨3, ![48, 64, C]⟩ 8) (h : 8 < 32)
    (ht : FTy.bits .bf16 < FTy.bits .f32) (hx : φ.bits < FTy.bits .bf16)
    (h1 : (⟨3, ![48, 8192, C]⟩ : Shape).ShapeCasts ⟨4, ![48, 64, 128, C]⟩)
    (h2 : (⟨3, ![48, 64, C]⟩ : Shape).ShapeCasts ⟨4, ![48, 64, 1, C]⟩)
    (h3 : (⟨4, ![48, 64, 1, C]⟩ : Shape).Broadcasts ⟨4, ![48, 64, 128, C]⟩) (hC : C ≠ 1)
    (b : Fin 48) (n : Fin 64) (r : Fin 128) (c : Fin C) (hl : n.val * 128 + r.val < 8192) :
    blocks x s h ht hx h1 h2 h3 (ValueIdx.ix4 b n r c) = deq x s b ⟨n.val * 128 + r.val, hl⟩ c := by
  have hr := r.isLt
  unfold blocks deq
  refine congrArg₂ (· * ·) ?_ ?_
  · refine shapeCast_apply x h1 _ (ValueIdx.ix3 b ⟨n.val * 128 + r.val, hl⟩ c) ?_
    rw [Shape.rowMajor_val_three, Shape.rowMajor_val_four]
    show (b.val * 8192 + (n.val * 128 + r.val)) * C + c.val = ((b.val * 64 + n.val) * 128 + r.val) * C + c.val
    rw [show b.val * 8192 + (n.val * 128 + r.val) = (b.val * 64 + n.val) * 128 + r.val by omega]
  · refine (broadcastTo_apply _ h3 _ (ValueIdx.ix4 b n (0 : Fin 1) c) ?_).trans ?_
    · intro a
      match a with
      | ⟨0, _⟩ => rfl
      | ⟨1, _⟩ => rfl
      | ⟨2, _⟩ => rfl
      | ⟨3, _⟩ => exact (if_neg hC).symm
    refine (shapeCast_apply _ h2 _ (ValueIdx.ix3 b n c) ?_).trans ?_
    · rw [Shape.rowMajor_val_three, Shape.rowMajor_val_four]
      show (b.val * 64 + n.val) * C + c.val = ((b.val * 64 + n.val) * 1 + 0) * C + c.val
      rw [Nat.mul_one, Nat.add_zero]
    · rw [scales_apply]
      refine congrArg scale (congrArg s ?_)
      funext a; apply Fin.ext
      match a with
      | ⟨0, _⟩ => rfl
      | ⟨1, _⟩ => show n.val = (n.val * 128 + r.val) / 128; omega
      | ⟨2, _⟩ => rfl

/-- The reference's product contracts batches, blocks and rows of a block. -/
abbrev D : DotDims S48x64x128x896 S48x64x128x960 S896x960 := dot_S48x64x128x896_S48x64x128x960_S896x960_012_012_3_3_n_n

/-- An index of its contraction is a batch, a block and a row of the block. -/
def contrEquiv : D.contr.Idx ≃ Fin 48 × Fin 64 × Fin 128 where
  toFun q := (q (0 : Fin 3), q (1 : Fin 3), q (2 : Fin 3))
  invFun p := fun (a : Fin 3) => match a with | ⟨0, _⟩ => p.1 | ⟨1, _⟩ => p.2.1 | ⟨2, _⟩ => p.2.2
  left_inv q := by
    funext (a : Fin 3)
    match a with | ⟨0, _⟩ => rfl | ⟨1, _⟩ => rfl | ⟨2, _⟩ => rfl
  right_inv _ := rfl

/-- The product at one element: the sum over the batches, blocks and rows of a block. -/
theorem product_apply (u : FVec Ideal S48x64x128x896 .bf16) (v : FVec Ideal S48x64x128x960 .bf16) (i : Fin 896) (o : Fin 960) :
    FloatOps.matmul D none u v (constant (F := Ideal) S896x960 .f32 0x00000000#32) (ValueIdx.ix2 i o)
      = ∑ b : Fin 48, ∑ n : Fin 64, ∑ r : Fin 128, u (ValueIdx.ix4 b n r i) * v (ValueIdx.ix4 b n r o) := by
  rw [Ideal.matmul_apply, ← Equiv.sum_comp contrEquiv.symm]
  have h0 : (constant (F := Ideal) S896x960 .f32 0x00000000#32 : FVec Ideal S896x960 .f32) (ValueIdx.ix2 i o) = 0 := by
    show Ideal.ofBits .f32 0x00000000#32 = 0
    simp
  rw [h0, zero_add, Fintype.sum_prod_type]
  refine Finset.sum_congr rfl fun b _ => ?_
  rw [Fintype.sum_prod_type]
  refine Finset.sum_congr rfl fun n _ => Finset.sum_congr rfl fun r _ => ?_
  have el : D.lhsIdx (ValueIdx.ix2 i o) (contrEquiv.symm (b, n, r)) = ValueIdx.ix4 b n r i := by
    funext a; apply Fin.ext
    match a with
    | ⟨0, _⟩ => rfl
    | ⟨1, _⟩ => rfl
    | ⟨2, _⟩ => rfl
    | ⟨3, _⟩ => rfl
  have er : D.rhsIdx (ValueIdx.ix2 i o) (contrEquiv.symm (b, n, r)) = ValueIdx.ix4 b n r o := by
    funext a; apply Fin.ext
    match a with
    | ⟨0, _⟩ => rfl
    | ⟨1, _⟩ => rfl
    | ⟨2, _⟩ => rfl
    | ⟨3, _⟩ => rfl
  rw [el, er]

/-- The reference's expression is the weight gradient. -/
theorem result_eq (x : Vec Ideal S48x8192x896 .fp8e4m3) (xs : Vec Ideal S48x64x896 .i8) (dy : Vec Ideal S48x8192x960 .fp8e5m2)
    (dys : Vec Ideal S48x64x960 .i8) (mg : Vec Ideal S896x960 .f32) :
    Value.G5 (F := Ideal) x xs dy dys mg = gradient x xs dy dys mg := by
  funext y
  obtain ⟨i, o, rfl⟩ : ∃ (i : Fin 896) (o : Fin 960), y = ValueIdx.ix2 i o := ⟨y 0, y 1, ValueIdx.eq_ix2 y⟩
  show mg (ValueIdx.ix2 i o) + FloatOps.matmul D none
      (blocks (φ := .fp8e4m3) x xs natLt_8_32 bitsLt_bf16_f32 bitsLt_fp8e4m3_bf16 shapeCasts_S48x8192x896_S48x64x128x896
        shapeCasts_S48x64x896_S48x64x1x896 broadcasts_S48x64x1x896_S48x64x128x896)
      (blocks (φ := .fp8e5m2) dy dys natLt_8_32 bitsLt_bf16_f32 bitsLt_fp8e5m2_bf16 shapeCasts_S48x8192x960_S48x64x128x960
        shapeCasts_S48x64x960_S48x64x1x960 broadcasts_S48x64x1x960_S48x64x128x960)
      (constant (F := Ideal) S896x960 .f32 0x00000000#32) (ValueIdx.ix2 i o) = _
  rw [product_apply]
  refine congrArg (mg (ValueIdx.ix2 i o) + ·) (Finset.sum_congr rfl fun b _ => ?_)
  refine Fin.sum_mul_add_congr fun n r hl => ?_
  rw [blocks_apply (hC := by decide) (hl := hl), blocks_apply (hC := by decide) (hl := hl)]

end Cert.Proof.Reference

end
-- ==== Proof.lean ====
/-
  THE PROOF OF `Cert.Claim`: the kernel, its idealization and the reference each run to completion on every input, change
  no argument and end with every semaphore at zero; the idealization keeps the kernel; and over the ideal values the
  kernel and the reference leave the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem

/-- Over the ideal values, from equal arguments, the kernel and the reference both end with the weight gradient in their
    result and the arguments unchanged. -/
theorem algebraic : Cert.algebraic_KernelIdeal_ReferenceIdeal := fun m g m' g' _ h =>
  ⟨fun c => Array.result m c,
    (θ_run _ _ _).mono (fun r hr c => ⟨(hr c).1.trans (Array.final m c), (hr c).2⟩) (Cert.KernelIdeal.Value.run_blocks m g),
    (θ_run _ _ _).mono (fun r hr c => ⟨by
      obtain ⟨h0, h1, h2, h3, h4⟩ := h c
      refine (hr c).1.trans ((Reference.result_eq _ _ _ _ _).trans ?_)
      rw [h0, h1, h2, h3, h4], (hr c).2⟩) (Cert.ReferenceIdeal.Value.run m' g')⟩

/-- The certificate's claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
